-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_float32_threshold [hPre_float32_threshold : Cert.Pre_float32_threshold.Facts] (m : (ℓ : Loc Cert.KernelIdeal.nD Cert.KernelIdeal.τ Cert.KernelIdeal.sig) → Buf (Elt Ideal) ℓ) : Prop :=
  ∀ c : Dev Cert.KernelIdeal.nD,
    (Cert.Pre_float32_threshold.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_float32_threshold [hPre_float32_threshold : Cert.Pre_float32_threshold.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_float32_threshold.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_float32_threshold [hKernelIdeal : Cert.KernelIdeal.Facts] [hPre_float32_threshold : Cert.Pre_float32_threshold.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_float32_threshold m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_float32_threshold [hReferenceIdeal : Cert.ReferenceIdeal.Facts] [hPre_float32_threshold : Cert.Pre_float32_threshold.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_float32_threshold m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_float32_threshold [hKernelIdeal : Cert.KernelIdeal.Facts] [hReferenceIdeal : Cert.ReferenceIdeal.Facts] [hPre_float32_threshold : Cert.Pre_float32_threshold.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_float32_threshold m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_float32_threshold : Cert.Pre_float32_threshold.Facts),
    quiescent_Kernel (hKernel := hKernel)
    ∧ quiescent_KernelIdeal (hKernelIdeal := hKernelIdeal)
    ∧ quiescent_KernelIdeal_pre_float32_threshold (hKernelIdeal := hKernelIdeal) (hPre_float32_threshold := hPre_float32_threshold)
    ∧ quiescent_ReferenceIdeal (hReferenceIdeal := hReferenceIdeal)
    ∧ quiescent_ReferenceIdeal_pre_float32_threshold (hReferenceIdeal := hReferenceIdeal) (hPre_float32_threshold := hPre_float32_threshold)
    ∧ preserves_Kernel_KernelIdeal
    ∧ algebraic_KernelIdeal_ReferenceIdeal_pre_float32_threshold (hKernelIdeal := hKernelIdeal) (hReferenceIdeal := hReferenceIdeal) (hPre_float32_threshold := hPre_float32_threshold)
-- ==== Pre_float32_threshold.lean ====
abbrev S32x1x384x384 : Shape := ⟨4, ![32, 1, 384, 384]⟩
abbrev S32x1x147456 : Shape := ⟨3, ![32, 1, 147456]⟩
abbrev S32x1x1 : Shape := ⟨3, ![32, 1, 1]⟩
abbrev S32x1 : Shape := ⟨2, ![32, 1]⟩
abbrev S_ : Shape := ⟨0, ![]⟩

class Facts : Prop where
  shapeCasts_S32x1x384x384_S32x1x147456 : S32x1x384x384.ShapeCasts S32x1x147456
  slices_S32x1x147456_S32x1x1_0_0_103219 : S32x1x147456.Slices ![0, 0, 103219] S32x1x1
  shapeCasts_S32x1x1_S32x1 : S32x1x1.ShapeCasts S32x1
  bcast_S_S32x1 : S_.BroadcastsInDim S32x1 (![] : Fin 0 → Fin S32x1.rank)

variable [Facts]

variable {F : FTy → Type} [FloatOps F]
def comparator_f32_d2 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S32x1x147456 .f32) : FVec F S32x1x147456 .f32 :=
  let v0 : FVec F S32x1x147456 .f32 := (fun x => Host.sort S32x1x147456 2 comparator_f32_d2 x) arg0
  v0

def fn_where {F : FTy → Type} [FloatOps F] (arg0 : IVec S32x1 1) (arg1 : IVec S32x1 32) (arg2 : IVec S32x1 32) : IVec S32x1 32 :=
  let v0 : IVec S32x1 32 := select arg0 arg1 arg2
  v0

def fn_part8 {F : FTy → Type} [FloatOps F] (main_v3 : FVec F S32x1 .f32) (main_v4 : FVec F S32x1 .f32) (main_v155 : IVec S32x1 32) (main_v157 : IVec S32x1 32) (main_v159 : IVec S32x1 1) : IVec S32x1 1 :=
  let main_v160 : IVec S32x1 32 := fn_where (F := F) main_v159 main_v157 main_v155
  let main_v161 : FVec F S32x1 .f32 := bitcastToFloat .f32 main_v160
  let main_v162 : IVec S32x1 1 := cmpf .oeq main_v161 main_v4
  let main_cst : FVec F S_ .f32 := constant S_ .f32 0xFF800000#32
  let main_v163 : FVec F S32x1 .f32 := broadcastInDim S32x1 ![] bcast_S_S32x1 main_cst
  let main_v164 : IVec S32x1 1 := cmpf .oeq main_v3 main_v163
  let main_cst_31 : FVec F S_ .f32 := constant S_ .f32 0x7F800000#32
  let main_v165 : FVec F S32x1 .f32 := broadcastInDim S32x1 ![] bcast_S_S32x1 main_cst_31
  let main_v166 : IVec S32x1 1 := cmpf .olt main_v3 main_v165
  let main_v167 : IVec S32x1 1 := andi main_v162 main_v166
  let main_v168 : IVec S32x1 1 := ori main_v164 main_v167
  main_v168

def fn_part7 {F : FTy → Type} [FloatOps F] (main_v3 : FVec F S32x1 .f32) (main_v4 : FVec F S32x1 .f32) (main_v135 : IVec S32x1 32) (main_v137 : IVec S32x1 32) (main_v139 : IVec S32x1 1) : IVec S32x1 1 :=
  let main_v140 : IVec S32x1 32 := fn_where (F := F) main_v139 main_v137 main_v135
  let main_c_27 : IVec S_ 32 := constantI S_ 32 8#32
  let main_v141 : IVec S32x1 32 := broadcastInDim S32x1 ![] bcast_S_S32x1 main_c_27
  let main_v142 : IVec S32x1 32 := ori main_v140 main_v141
  let main_v143 : FVec F S32x1 .f32 := bitcastToFloat .f32 main_v142
  let main_v144 : IVec S32x1 1 := cmpf .ole main_v143 main_v4
  let main_v145 : IVec S32x1 32 := fn_where (F := F) main_v144 main_v142 main_v140
  let main_c_28 : IVec S_ 32 := constantI S_ 32 4#32
  let main_v146 : IVec S32x1 32 := broadcastInDim S32x1 ![] bcast_S_S32x1 main_c_28
  let main_v147 : IVec S32x1 32 := ori main_v145 main_v146
  let main_v148 : FVec F S32x1 .f32 := bitcastToFloat .f32 main_v147
  let main_v149 : IVec S32x1 1 := cmpf .ole main_v148 main_v4
  let main_v150 : IVec S32x1 32 := fn_where (F := F) main_v149 main_v147 main_v145
  let main_c_29 : IVec S_ 32 := constantI S_ 32 2#32
  let main_v151 : IVec S32x1 32 := broadcastInDim S32x1 ![] bcast_S_S32x1 main_c_29
  let main_v152 : IVec S32x1 32 := ori main_v150 main_v151
  let main_v153 : FVec F S32x1 .f32 := bitcastToFloat .f32 main_v152
  let main_v154 : IVec S32x1 1 := cmpf .ole main_v153 main_v4
  let main_v155 : IVec S32x1 32 := fn_where (F := F) main_v154 main_v152 main_v150
  let main_c_30 : IVec S_ 32 := constantI S_ 32 1#32
  let main_v156 : IVec S32x1 32 := broadcastInDim S32x1 ![] bcast_S_S32x1 main_c_30
  let main_v157 : IVec S32x1 32 := ori main_v155 main_v156
  let main_v158 : FVec F S32x1 .f32 := bitcastToFloat .f32 main_v157
  let main_v159 : IVec S32x1 1 := cmpf .ole main_v158 main_v4
  fn_part8 (F := F) main_v3 main_v4 main_v155 main_v157 main_v159

def fn_part6 {F : FTy → Type} [FloatOps F] (main_v3 : FVec F S32x1 .f32) (main_v4 : FVec F S32x1 .f32) (main_v115 : IVec S32x1 32) (main_v117 : IVec S32x1 32) (main_v119 : IVec S32x1 1) : IVec S32x1 1 :=
  let main_v120 : IVec S32x1 32 := fn_where (F := F) main_v119 main_v117 main_v115
  let main_c_23 : IVec S_ 32 := constantI S_ 32 128#32
  let main_v121 : IVec S32x1 32 := broadcastInDim S32x1 ![] bcast_S_S32x1 main_c_23
  let main_v122 : IVec S32x1 32 := ori main_v120 main_v121
  let main_v123 : FVec F S32x1 .f32 := bitcastToFloat .f32 main_v122
  let main_v124 : IVec S32x1 1 := cmpf .ole main_v123 main_v4
  let main_v125 : IVec S32x1 32 := fn_where (F := F) main_v124 main_v122 main_v120
  let main_c_24 : IVec S_ 32 := constantI S_ 32 64#32
  let main_v126 : IVec S32x1 32 := broadcastInDim S32x1 ![] bcast_S_S32x1 main_c_24
  let main_v127 : IVec S32x1 32 := ori main_v125 main_v126
  let main_v128 : FVec F S32x1 .f32 := bitcastToFloat .f32 main_v127
  let main_v129 : IVec S32x1 1 := cmpf .ole main_v128 main_v4
  let main_v130 : IVec S32x1 32 := fn_where (F := F) main_v129 main_v127 main_v125
  let main_c_25 : IVec S_ 32 := constantI S_ 32 32#32
  let main_v131 : IVec S32x1 32 := broadcastInDim S32x1 ![] bcast_S_S32x1 main_c_25
  let main_v132 : IVec S32x1 32 := ori main_v130 main_v131
  let main_v133 : FVec F S32x1 .f32 := bitcastToFloat .f32 main_v132
  let main_v134 : IVec S32x1 1 := cmpf .ole main_v133 main_v4
  let main_v135 : IVec S32x1 32 := fn_where (F := F) main_v134 main_v132 main_v130
  let main_c_26 : IVec S_ 32 := constantI S_ 32 16#32
  let main_v136 : IVec S32x1 32 := broadcastInDim S32x1 ![] bcast_S_S32x1 main_c_26
  let main_v137 : IVec S32x1 32 := ori main_v135 main_v136
  let main_v138 : FVec F S32x1 .f32 := bitcastToFloat .f32 main_v137
  let main_v139 : IVec S32x1 1 := cmpf .ole main_v138 main_v4
  fn_part7 (F := F) main_v3 main_v4 main_v135 main_v137 main_v139

def fn_part5 {F : FTy → Type} [FloatOps F] (main_v3 : FVec F S32x1 .f32) (main_v4 : FVec F S32x1 .f32) (main_v95 : IVec S32x1 32) (main_v97 : IVec S32x1 32) (main_v99 : IVec S32x1 1) : IVec S32x1 1 :=
  let main_v100 : IVec S32x1 32 := fn_where (F := F) main_v99 main_v97 main_v95
  let main_c_19 : IVec S_ 32 := constantI S_ 32 2048#32
  let main_v101 : IVec S32x1 32 := broadcastInDim S32x1 ![] bcast_S_S32x1 main_c_19
  let main_v102 : IVec S32x1 32 := ori main_v100 main_v101
  let main_v103 : FVec F S32x1 .f32 := bitcastToFloat .f32 main_v102
  let main_v104 : IVec S32x1 1 := cmpf .ole main_v103 main_v4
  let main_v105 : IVec S32x1 32 := fn_where (F := F) main_v104 main_v102 main_v100
  let main_c_20 : IVec S_ 32 := constantI S_ 32 1024#32
  let main_v106 : IVec S32x1 32 := broadcastInDim S32x1 ![] bcast_S_S32x1 main_c_20
  let main_v107 : IVec S32x1 32 := ori main_v105 main_v106
  let main_v108 : FVec F S32x1 .f32 := bitcastToFloat .f32 main_v107
  let main_v109 : IVec S32x1 1 := cmpf .ole main_v108 main_v4
  let main_v110 : IVec S32x1 32 := fn_where (F := F) main_v109 main_v107 main_v105
  let main_c_21 : IVec S_ 32 := constantI S_ 32 512#32
  let main_v111 : IVec S32x1 32 := broadcastInDim S32x1 ![] bcast_S_S32x1 main_c_21
  let main_v112 : IVec S32x1 32 := ori main_v110 main_v111
  let main_v113 : FVec F S32x1 .f32 := bitcastToFloat .f32 main_v112
  let main_v114 : IVec S32x1 1 := cmpf .ole main_v113 main_v4
  let main_v115 : IVec S32x1 32 := fn_where (F := F) main_v114 main_v112 main_v110
  let main_c_22 : IVec S_ 32 := constantI S_ 32 256#32
  let main_v116 : IVec S32x1 32 := broadcastInDim S32x1 ![] bcast_S_S32x1 main_c_22
  let main_v117 : IVec S32x1 32 := ori main_v115 main_v116
  let main_v118 : FVec F S32x1 .f32 := bitcastToFloat .f32 main_v117
  let main_v119 : IVec S32x1 1 := cmpf .ole main_v118 main_v4
  fn_part6 (F := F) main_v3 main_v4 main_v115 main_v117 main_v119

def fn_part4 {F : FTy → Type} [FloatOps F] (main_v3 : FVec F S32x1 .f32) (main_v4 : FVec F S32x1 .f32) (main_v75 : IVec S32x1 32) (main_v77 : IVec S32x1 32) (main_v79 : IVec S32x1 1) : IVec S32x1 1 :=
  let main_v80 : IVec S32x1 32 := fn_where (F := F) main_v79 main_v77 main_v75
  let main_c_15 : IVec S_ 32 := constantI S_ 32 32768#32
  let main_v81 : IVec S32x1 32 := broadcastInDim S32x1 ![] bcast_S_S32x1 main_c_15
  let main_v82 : IVec S32x1 32 := ori main_v80 main_v81
  let main_v83 : FVec F S32x1 .f32 := bitcastToFloat .f32 main_v82
  let main_v84 : IVec S32x1 1 := cmpf .ole main_v83 main_v4
  let main_v85 : IVec S32x1 32 := fn_where (F := F) main_v84 main_v82 main_v80
  let main_c_16 : IVec S_ 32 := constantI S_ 32 16384#32
  let main_v86 : IVec S32x1 32 := broadcastInDim S32x1 ![] bcast_S_S32x1 main_c_16
  let main_v87 : IVec S32x1 32 := ori main_v85 main_v86
  let main_v88 : FVec F S32x1 .f32 := bitcastToFloat .f32 main_v87
  let main_v89 : IVec S32x1 1 := cmpf .ole main_v88 main_v4
  let main_v90 : IVec S32x1 32 := fn_where (F := F) main_v89 main_v87 main_v85
  let main_c_17 : IVec S_ 32 := constantI S_ 32 8192#32
  let main_v91 : IVec S32x1 32 := broadcastInDim S32x1 ![] bcast_S_S32x1 main_c_17
  let main_v92 : IVec S32x1 32 := ori main_v90 main_v91
  let main_v93 : FVec F S32x1 .f32 := bitcastToFloat .f32 main_v92
  let main_v94 : IVec S32x1 1 := cmpf .ole main_v93 main_v4
  let main_v95 : IVec S32x1 32 := fn_where (F := F) main_v94 main_v92 main_v90
  let main_c_18 : IVec S_ 32 := constantI S_ 32 4096#32
  let main_v96 : IVec S32x1 32 := broadcastInDim S32x1 ![] bcast_S_S32x1 main_c_18
  let main_v97 : IVec S32x1 32 := ori main_v95 main_v96
  let main_v98 : FVec F S32x1 .f32 := bitcastToFloat .f32 main_v97
  let main_v99 : IVec S32x1 1 := cmpf .ole main_v98 main_v4
  fn_part5 (F := F) main_v3 main_v4 main_v95 main_v97 main_v99

def fn_part3 {F : FTy → Type} [FloatOps F] (main_v3 : FVec F S32x1 .f32) (main_v4 : FVec F S32x1 .f32) (main_v55 : IVec S32x1 32) (main_v57 : IVec S32x1 32) (main_v59 : IVec S32x1 1) : IVec S32x1 1 :=
  let main_v60 : IVec S32x1 32 := fn_where (F := F) main_v59 main_v57 main_v55
  let main_c_11 : IVec S_ 32 := constantI S_ 32 524288#32
  let main_v61 : IVec S32x1 32 := broadcastInDim S32x1 ![] bcast_S_S32x1 main_c_11
  let main_v62 : IVec S32x1 32 := ori main_v60 main_v61
  let main_v63 : FVec F S32x1 .f32 := bitcastToFloat .f32 main_v62
  let main_v64 : IVec S32x1 1 := cmpf .ole main_v63 main_v4
  let main_v65 : IVec S32x1 32 := fn_where (F := F) main_v64 main_v62 main_v60
  let main_c_12 : IVec S_ 32 := constantI S_ 32 262144#32
  let main_v66 : IVec S32x1 32 := broadcastInDim S32x1 ![] bcast_S_S32x1 main_c_12
  let main_v67 : IVec S32x1 32 := ori main_v65 main_v66
  let main_v68 : FVec F S32x1 .f32 := bitcastToFloat .f32 main_v67
  let main_v69 : IVec S32x1 1 := cmpf .ole main_v68 main_v4
  let main_v70 : IVec S32x1 32 := fn_where (F := F) main_v69 main_v67 main_v65
  let main_c_13 : IVec S_ 32 := constantI S_ 32 131072#32
  let main_v71 : IVec S32x1 32 := broadcastInDim S32x1 ![] bcast_S_S32x1 main_c_13
  let main_v72 : IVec S32x1 32 := ori main_v70 main_v71
  let main_v73 : FVec F S32x1 .f32 := bitcastToFloat .f32 main_v72
  let main_v74 : IVec S32x1 1 := cmpf .ole main_v73 main_v4
  let main_v75 : IVec S32x1 32 := fn_where (F := F) main_v74 main_v72 main_v70
  let main_c_14 : IVec S_ 32 := constantI S_ 32 65536#32
  let main_v76 : IVec S32x1 32 := broadcastInDim S32x1 ![] bcast_S_S32x1 main_c_14
  let main_v77 : IVec S32x1 32 := ori main_v75 main_v76
  let main_v78 : FVec F S32x1 .f32 := bitcastToFloat .f32 main_v77
  let main_v79 : IVec S32x1 1 := cmpf .ole main_v78 main_v4
  fn_part4 (F := F) main_v3 main_v4 main_v75 main_v77 main_v79

def fn_part2 {F : FTy → Type} [FloatOps F] (main_v3 : FVec F S32x1 .f32) (main_v4 : FVec F S32x1 .f32) (main_v35 : IVec S32x1 32) (main_v37 : IVec S32x1 32) (main_v39 : IVec S32x1 1) : IVec S32x1 1 :=
  let main_v40 : IVec S32x1 32 := fn_where (F := F) main_v39 main_v37 main_v35
  let main_c_7 : IVec S_ 32 := constantI S_ 32 8388608#32
  let main_v41 : IVec S32x1 32 := broadcastInDim S32x1 ![] bcast_S_S32x1 main_c_7
  let main_v42 : IVec S32x1 32 := ori main_v40 main_v41
  let main_v43 : FVec F S32x1 .f32 := bitcastToFloat .f32 main_v42
  let main_v44 : IVec S32x1 1 := cmpf .ole main_v43 main_v4
  let main_v45 : IVec S32x1 32 := fn_where (F := F) main_v44 main_v42 main_v40
  let main_c_8 : IVec S_ 32 := constantI S_ 32 4194304#32
  let main_v46 : IVec S32x1 32 := broadcastInDim S32x1 ![] bcast_S_S32x1 main_c_8
  let main_v47 : IVec S32x1 32 := ori main_v45 main_v46
  let main_v48 : FVec F S32x1 .f32 := bitcastToFloat .f32 main_v47
  let main_v49 : IVec S32x1 1 := cmpf .ole main_v48 main_v4
  let main_v50 : IVec S32x1 32 := fn_where (F := F) main_v49 main_v47 main_v45
  let main_c_9 : IVec S_ 32 := constantI S_ 32 2097152#32
  let main_v51 : IVec S32x1 32 := broadcastInDim S32x1 ![] bcast_S_S32x1 main_c_9
  let main_v52 : IVec S32x1 32 := ori main_v50 main_v51
  let main_v53 : FVec F S32x1 .f32 := bitcastToFloat .f32 main_v52
  let main_v54 : IVec S32x1 1 := cmpf .ole main_v53 main_v4
  let main_v55 : IVec S32x1 32 := fn_where (F := F) main_v54 main_v52 main_v50
  let main_c_10 : IVec S_ 32 := constantI S_ 32 1048576#32
  let main_v56 : IVec S32x1 32 := broadcastInDim S32x1 ![] bcast_S_S32x1 main_c_10
  let main_v57 : IVec S32x1 32 := ori main_v55 main_v56
  let main_v58 : FVec F S32x1 .f32 := bitcastToFloat .f32 main_v57
  let main_v59 : IVec S32x1 1 := cmpf .ole main_v58 main_v4
  fn_part3 (F := F) main_v3 main_v4 main_v55 main_v57 main_v59

def fn_part1 {F : FTy → Type} [FloatOps F] (main_v3 : FVec F S32x1 .f32) (main_v4 : FVec F S32x1 .f32) (main_v15 : IVec S32x1 32) (main_v17 : IVec S32x1 32) (main_v19 : IVec S32x1 1) : IVec S32x1 1 :=
  let main_v20 : IVec S32x1 32 := fn_where (F := F) main_v19 main_v17 main_v15
  let main_c_3 : IVec S_ 32 := constantI S_ 32 134217728#32
  let main_v21 : IVec S32x1 32 := broadcastInDim S32x1 ![] bcast_S_S32x1 main_c_3
  let main_v22 : IVec S32x1 32 := ori main_v20 main_v21
  let main_v23 : FVec F S32x1 .f32 := bitcastToFloat .f32 main_v22
  let main_v24 : IVec S32x1 1 := cmpf .ole main_v23 main_v4
  let main_v25 : IVec S32x1 32 := fn_where (F := F) main_v24 main_v22 main_v20
  let main_c_4 : IVec S_ 32 := constantI S_ 32 67108864#32
  let main_v26 : IVec S32x1 32 := broadcastInDim S32x1 ![] bcast_S_S32x1 main_c_4
  let main_v27 : IVec S32x1 32 := ori main_v25 main_v26
  let main_v28 : FVec F S32x1 .f32 := bitcastToFloat .f32 main_v27
  let main_v29 : IVec S32x1 1 := cmpf .ole main_v28 main_v4
  let main_v30 : IVec S32x1 32 := fn_where (F := F) main_v29 main_v27 main_v25
  let main_c_5 : IVec S_ 32 := constantI S_ 32 33554432#32
  let main_v31 : IVec S32x1 32 := broadcastInDim S32x1 ![] bcast_S_S32x1 main_c_5
  let main_v32 : IVec S32x1 32 := ori main_v30 main_v31
  let main_v33 : FVec F S32x1 .f32 := bitcastToFloat .f32 main_v32
  let main_v34 : IVec S32x1 1 := cmpf .ole main_v33 main_v4
  let main_v35 : IVec S32x1 32 := fn_where (F := F) main_v34 main_v32 main_v30
  let main_c_6 : IVec S_ 32 := constantI S_ 32 16777216#32
  let main_v36 : IVec S32x1 32 := broadcastInDim S32x1 ![] bcast_S_S32x1 main_c_6
  let main_v37 : IVec S32x1 32 := ori main_v35 main_v36
  let main_v38 : FVec F S32x1 .f32 := bitcastToFloat .f32 main_v37
  let main_v39 : IVec S32x1 1 := cmpf .ole main_v38 main_v4
  fn_part2 (F := F) main_v3 main_v4 main_v35 main_v37 main_v39

def fn {F : FTy → Type} [FloatOps F] (main_arg0 : FVec F S32x1x384x384 .f32) : IVec S32x1 1 :=
  let main_v0 : FVec F S32x1x147456 .f32 := shapeCast S32x1x147456 main_arg0 shapeCasts_S32x1x384x384_S32x1x147456
  let main_v1 : FVec F S32x1x147456 .f32 := fn_sort (F := F) main_v0
  let main_v2 : FVec F S32x1x1 .f32 := (extractStridedSlice S32x1x1 ![0, 0, 103219] · slices_S32x1x147456_S32x1x1_0_0_103219) main_v1
  let main_v3 : FVec F S32x1 .f32 := shapeCast S32x1 main_v2 shapeCasts_S32x1x1_S32x1
  let main_v4 : FVec F S32x1 .f32 := Host.absf main_v3
  let main_c : IVec S_ 32 := constantI S_ 32 0#32
  let main_v5 : IVec S32x1 32 := broadcastInDim S32x1 ![] bcast_S_S32x1 main_c
  let main_c_0 : IVec S_ 32 := constantI S_ 32 1073741824#32
  let main_v6 : IVec S32x1 32 := broadcastInDim S32x1 ![] bcast_S_S32x1 main_c_0
  let main_v7 : IVec S32x1 32 := ori main_v5 main_v6
  let main_v8 : FVec F S32x1 .f32 := bitcastToFloat .f32 main_v7
  let main_v9 : IVec S32x1 1 := cmpf .ole main_v8 main_v4
  let main_v10 : IVec S32x1 32 := fn_where (F := F) main_v9 main_v7 main_v5
  let main_c_1 : IVec S_ 32 := constantI S_ 32 536870912#32
  let main_v11 : IVec S32x1 32 := broadcastInDim S32x1 ![] bcast_S_S32x1 main_c_1
  let main_v12 : IVec S32x1 32 := ori main_v10 main_v11
  let main_v13 : FVec F S32x1 .f32 := bitcastToFloat .f32 main_v12
  let main_v14 : IVec S32x1 1 := cmpf .ole main_v13 main_v4
  let main_v15 : IVec S32x1 32 := fn_where (F := F) main_v14 main_v12 main_v10
  let main_c_2 : IVec S_ 32 := constantI S_ 32 268435456#32
  let main_v16 : IVec S32x1 32 := broadcastInDim S32x1 ![] bcast_S_S32x1 main_c_2
  let main_v17 : IVec S32x1 32 := ori main_v15 main_v16
  let main_v18 : FVec F S32x1 .f32 := bitcastToFloat .f32 main_v17
  let main_v19 : IVec S32x1 1 := cmpf .ole main_v18 main_v4
  fn_part1 (F := F) main_v3 main_v4 main_v15 main_v17 main_v19
-- ==== Kernel.lean ====
abbrev S32x1x384x384 : Shape := ⟨4, ![32, 1, 384, 384]⟩
abbrev S32x1x1x1 : Shape := ⟨4, ![32, 1, 1, 1]⟩
abbrev S32 : Shape := ⟨1, ![32]⟩

abbrev nBuf : Space → Nat
  | .hbm => 2
  | .vmem => 2
  | .smem => 0
  | _ => 0

abbrev bufTy : (tb : Table) → Fin (tcTables nBuf tb) → BufTy
  | .hbm, ⟨0, _⟩ => ⟨S32x1x384x384, .f32⟩
  | .hbm, ⟨1, _⟩ => ⟨S32x1x384x384, .f32⟩
  | .local _ .vmem, ⟨0, _⟩ => ⟨S32x1x384x384, .f32⟩
  | .local _ .vmem, ⟨1, _⟩ => ⟨S32x1x384x384, .f32⟩
  | _, _ => ⟨S32x1x384x384, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_0 : BitVec 32 := 0#32
  let c32_i32 : BitVec 32 := 32#32
  let v1 : BitVec 32 := Scalar.addi c0_i32_0 c32_i32
  let c1_i32 : BitVec 32 := 1#32
  ⟨c0_i32_0, v1, c1_i32⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S32x1x384x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1x384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceIdeal.lean ====
abbrev S32x1x384x384 : Shape := ⟨4, ![32, 1, 384, 384]⟩
abbrev S32x1x147456 : Shape := ⟨3, ![32, 1, 147456]⟩
abbrev S32x1x1 : Shape := ⟨3, ![32, 1, 1]⟩
abbrev S32x1 : Shape := ⟨2, ![32, 1]⟩
abbrev S32x1x1x1 : Shape := ⟨4, ![32, 1, 1, 1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S32x1x384x384, .f32⟩
  | .hbm, ⟨1, _⟩ => ⟨S32x1x147456, .f32⟩
  | .hbm, ⟨2, _⟩ => ⟨S32x1x147456, .f32⟩
  | .hbm, ⟨3, _⟩ => ⟨S32x1x1, .f32⟩
  | .hbm, ⟨4, _⟩ => ⟨S32x1, .f32⟩
  | .hbm, ⟨5, _⟩ => ⟨S32x1x1x1, .f32⟩
  | .hbm, ⟨6, _⟩ => ⟨S32x1x384x384, .f32⟩
  | .hbm, ⟨7, _⟩ => ⟨S32x1x384x384, .f32⟩
  | .hbm, ⟨8, _⟩ => ⟨S_, .f32⟩
  | .hbm, ⟨9, _⟩ => ⟨S32x1x384x384, .f32⟩
  | .hbm, ⟨10, _⟩ => ⟨S32x1x384x384, .f32⟩
  | .hbm, ⟨11, _⟩ => ⟨S32x1x384x384, .f32⟩
  | .hbm, ⟨12, _⟩ => ⟨S32x1x384x384, .f32⟩
  | .hbm, ⟨13, _⟩ => ⟨S_, .f32⟩
  | .hbm, ⟨14, _⟩ => ⟨S32x1x384x384, .f32⟩
  | .hbm, ⟨15, _⟩ => ⟨S32x1x384x384, .f32⟩
  | .hbm, ⟨16, _⟩ => ⟨S_, .f32⟩
  | .hbm, ⟨17, _⟩ => ⟨S32x1x384x384, .f32⟩
  | .hbm, ⟨18, _⟩ => ⟨S32x1x384x384, .f32⟩
  | _, _ => ⟨S32x1x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Proof.Search.lean ====
/-
  A bitwise search for the least number that passes a test.

  The kernel looks for a 32-bit word from its top bit down. It holds a prefix `p`. At the bit of weight `2^b` it
  tests the word made of `p`, a zero at that bit and ones below; it keeps `p` if the test passes and sets the bit
  if it fails. This file proves, over numbers only, that 32 such steps from zero end at `K` when a tested word
  passes exactly if it is at least `K`. The tested words stay at most `0xFF800000` when `K` is at most `0xFF7FFFFF`,
  so the test has to be understood on those words only.
-/
module

public import Mathlib.Data.BitVec
public import Mathlib.Tactic.IntervalCases
public import Mathlib.Tactic.NormNum

@[expose] public section

namespace Cert.Proof.Search

/-- The word tested at the bit of weight `2^b`: the prefix, a zero at that bit, ones below it. -/
def tested (p : BitVec 32) (b : ℕ) : BitVec 32 := p ||| BitVec.ofNat 32 (2 ^ b - 1)

/-- One step of the search at the bit of weight `2^b`. -/
def step (passes : BitVec 32 → Prop) [DecidablePred passes] (p : BitVec 32) (b : ℕ) : BitVec 32 :=
  if passes (tested p b) then p else p ||| BitVec.ofNat 32 (2 ^ b)

/-- The prefix after `n` steps from zero. -/
def prefixAt (passes : BitVec 32 → Prop) [DecidablePred passes] : ℕ → BitVec 32
  | 0 => 0#32
  | n + 1 => step passes (prefixAt passes n) (31 - n)

/-- A multiple of `2^n` or-ed with a number below `2^n` is their sum. -/
theorem toNat_or_ofNat (p : BitVec 32) (n a : ℕ) (hp : 2 ^ n ∣ p.toNat) (ha : a < 2 ^ n) (ha' : a < 2 ^ 32) :
    (p ||| BitVec.ofNat 32 a).toNat = p.toNat + a := by
  obtain ⟨q, hq⟩ := hp
  rw [BitVec.toNat_or, BitVec.toNat_ofNat, Nat.mod_eq_of_lt ha', hq, Nat.two_pow_add_eq_or_of_lt ha]

/-- The tested word as a number. -/
theorem toNat_tested (p : BitVec 32) (b : ℕ) (hb : b < 32) (hp : 2 ^ (b + 1) ∣ p.toNat) :
    (tested p b).toNat = p.toNat + (2 ^ b - 1) := by
  have h1 : 2 ^ b ≤ 2 ^ 31 := Nat.pow_le_pow_right (by norm_num) (by omega)
  have h2 : 0 < 2 ^ b := Nat.two_pow_pos b
  refine toNat_or_ofNat p (b + 1) _ hp ?_ ?_
  · rw [pow_succ]; omega
  · omega

/-- A prefix at most `0xFF7FFFFF` gives a tested word at most `0xFF800000`. -/
theorem tested_le (p : BitVec 32) (b : ℕ) (hb : b < 32) (hp : 2 ^ (b + 1) ∣ p.toNat) (hle : p.toNat ≤ 4286578687) :
    (tested p b).toNat ≤ 4286578688 := by
  rw [toNat_tested p b hb hp]
  obtain ⟨q, hq⟩ := hp
  rw [hq] at hle ⊢
  interval_cases b <;> norm_num at hle ⊢ <;> omega

/-- After `n` steps the prefix is a multiple of `2^(32-n)` and `K` is among the words that continue it. -/
theorem prefixAt_spec (passes : BitVec 32 → Prop) [DecidablePred passes] (K : ℕ) (hK : K ≤ 4286578687)
    (h : ∀ t : BitVec 32, t.toNat ≤ 4286578688 → (passes t ↔ K ≤ t.toNat)) :
    ∀ n ≤ 32, 2 ^ (32 - n) ∣ (prefixAt passes n).toNat ∧ (prefixAt passes n).toNat ≤ K
      ∧ K < (prefixAt passes n).toNat + 2 ^ (32 - n)
  | 0, _ => by
    refine ⟨by simp [prefixAt], by simp [prefixAt], ?_⟩
    simp only [prefixAt, BitVec.toNat_ofNat]; norm_num; omega
  | n + 1, hn => by
    obtain ⟨h1, h2, h3⟩ := prefixAt_spec passes K hK h n (by omega)
    have e : 32 - n = (31 - n) + 1 := by omega
    have e' : 32 - (n + 1) = 31 - n := by omega
    rw [e] at h1 h3
    have hb : 31 - n < 32 := by omega
    have ht := tested_le _ _ hb h1 (by omega)
    have hp := h _ ht
    rw [toNat_tested _ _ hb h1] at hp
    have hpos : 0 < 2 ^ (31 - n) := Nat.two_pow_pos _
    have hle : 2 ^ (31 - n) ≤ 2 ^ 31 := Nat.pow_le_pow_right (by norm_num) (by omega)
    rw [e']
    simp only [prefixAt, step]
    rw [pow_succ] at h3
    have h1' : 2 ^ (31 - n) ∣ (prefixAt passes n).toNat := dvd_trans (pow_dvd_pow 2 (by omega)) h1
    split
    · rename_i hpass
      have := hp.mp hpass
      exact ⟨h1', h2, by omega⟩
    · rename_i hpass
      have hlt : ¬ K ≤ _ := fun hh => hpass (hp.mpr hh)
      rw [toNat_or_ofNat _ (31 - n + 1) _ h1 (by rw [pow_succ]; omega) (by omega)]
      exact ⟨(Nat.dvd_add_right h1').mpr dvd_rfl, by omega, by omega⟩

/-- The search ends at `K`. -/
theorem prefixAt_end (passes : BitVec 32 → Prop) [DecidablePred passes] (K : ℕ) (hK : K ≤ 4286578687)
    (h : ∀ t : BitVec 32, t.toNat ≤ 4286578688 → (passes t ↔ K ≤ t.toNat)) : (prefixAt passes 32).toNat = K := by
  obtain ⟨-, h2, h3⟩ := prefixAt_spec passes K hK h 32 le_rfl
  norm_num at h3
  omega

end Cert.Proof.Search

end
-- ==== Proof.Words.lean ====
/-
  Float32 words as extended reals, and the word that the kernel decodes from a search key.

  A key below `0x80000000` stands for the word of its complement, any other key for the word with its top bit
  cleared: keys in increasing order stand for numbers in increasing order. This file proves what the search needs of
  that: for a word of a number below infinity there is a key `K` that stands for that number, and among the keys up
  to `0xFF800000` exactly those from `K` on stand for a number at least as large. The two zeros are one number: for
  them `K` is the key of the negative one, which is the smaller. A word that is not a number denotes `⊥`, minus
  infinity, and so does key zero.
-/
module

public import Idealize.ShloMosaic.Lib.TotalOrder
public import Idealize.ShloMosaic.PureOps.Ideal
public import Mathlib.Tactic.NormNum

@[expose] public section

noncomputable section

namespace Cert.Proof.Words

open Idealize.ShloMosaic Idealize.ShloMosaic.TotalOrder

/-- The extended real that a float32 word denotes. -/
def num (w : BitVec 32) : EReal := Ideal.ieee 8 23 w

/-- The word that a search key stands for. -/
def decode (t : BitVec 32) : BitVec 32 :=
  if 2147483648 ≤ t.toNat then t ^^^ 2147483648#32 else t ^^^ 4294967295#32

/-- The word with its top bit flipped, as a number. -/
theorem toNat_flip (w : BitVec 32) :
    (w ^^^ 2147483648#32).toNat = if 2147483648 ≤ w.toNat then w.toNat - 2147483648 else w.toNat + 2147483648 := by
  have hlt := w.isLt
  have hlt' := (w ^^^ 2147483648#32).isLt
  have hm : (w ^^^ 2147483648#32).toNat % 2 ^ 31 = w.toNat % 2 ^ 31 := by
    rw [BitVec.toNat_xor, Nat.xor_mod_two_pow]; simp
  have hd : (w ^^^ 2147483648#32).toNat / 2 ^ 31 = (w.toNat / 2 ^ 31) ^^^ 1 := by
    rw [BitVec.toNat_xor, Nat.xor_div_two_pow]; rfl
  split
  · rw [show w.toNat / 2 ^ 31 = 1 by omega, Nat.xor_self] at hd; omega
  · rw [show w.toNat / 2 ^ 31 = 0 by omega, Nat.zero_xor] at hd; omega

/-- That word as a number. -/
theorem toNat_decode (t : BitVec 32) :
    (decode t).toNat = if 2147483648 ≤ t.toNat then t.toNat - 2147483648 else 4294967295 - t.toNat := by
  unfold decode
  split
  · rename_i h
    rw [toNat_flip, if_pos h]
  · rw [show (4294967295#32 : BitVec 32) = BitVec.allOnes 32 from rfl, BitVec.xor_allOnes, BitVec.toNat_not]

/-- A word is not a number exactly when its low 31 bits exceed those of the infinities. -/
theorem isNaN_iff (w : BitVec 32) : IsNaN 8 23 w ↔ 2139095040 < w.toNat % 2147483648 := by
  unfold IsNaN
  rw [expo_eq, frac_eq]
  norm_num
  omega

/-- A word that is not a number denotes `⊥`. -/
theorem num_of_isNaN {w : BitVec 32} (h : IsNaN 8 23 w) : num w = ⊥ := by
  unfold num Ideal.ieee
  exact (if_pos h.1).trans (if_neg h.2)

/-- The words of the infinities denote `⊥` and `⊤`. -/
theorem num_of_expo {w : BitVec 32} (h : expo 8 23 w = 2 ^ 8 - 1) : num w = ⊥ ∨ num w = ⊤ := by
  unfold num Ideal.ieee
  simp only [show (w.extractLsb' 23 8).toNat = 2 ^ 8 - 1 from h, if_true]
  split_ifs <;> simp

/-- The word of minus infinity denotes it. -/
theorem num_negInf : num 4286578688#32 = ⊥ := by
  unfold num Ideal.ieee
  simp

/-- The word of a finite number has its low 31 bits below those of the infinities. -/
theorem mod_lt_of_finite {w : BitVec 32} (hb : num w ≠ ⊥) (ht : num w ≠ ⊤) : w.toNat % 2147483648 < 2139095040 := by
  by_contra hge
  have he : expo 8 23 w = 2 ^ 8 - 1 := by
    rw [expo_eq]; norm_num; omega
  rcases num_of_expo he with h | h
  · exact hb h
  · exact ht h

/-- The top bit of a word. -/
theorem msb_iff' (w : BitVec 32) : w.msb = true ↔ 2147483648 ≤ w.toNat := by
  rw [BitVec.msb_eq_true_iff_two_mul_ge]; omega

/-- The total order's key of a word as a number. -/
theorem toNat_key (w : BitVec 32) :
    (totalOrderKey w).toNat = if 2147483648 ≤ w.toNat then 4294967295 - w.toNat else w.toNat + 2147483648 := by
  have h := toNat_totalOrderKey (e := 8) (m := 23) w
  refine h.trans ?_
  by_cases hw : 2147483648 ≤ w.toNat
  · rw [if_pos hw, if_pos ((msb_iff' w).mpr hw)]; norm_num
  · rw [if_neg hw, if_neg (fun hh => hw ((msb_iff' w).mp hh))]; norm_num

/-- Decoding inverts the total order's key. -/
theorem toNat_key_decode (t : BitVec 32) : (totalOrderKey (decode t)).toNat = t.toNat := by
  have hlt := t.isLt
  rw [toNat_key, toNat_decode]
  split_ifs <;> omega

/-- Both zero words denote zero. -/
theorem num_zero : num 0#32 = 0 := by
  simp [num, Ideal.ieee]

theorem num_negZero : num 0x80000000#32 = 0 := by
  simp [num, Ideal.ieee]

/-- Every word but the positive zero: its own key has the property stated at the head of this file. -/
theorem key_spec {w : BitVec 32} (hb : num w ≠ ⊥) (ht : num w ≠ ⊤) (h0 : w ≠ 0#32) :
    (totalOrderKey w).toNat ≤ 4286578687 ∧ ∀ t : BitVec 32, t.toNat ≤ 4286578688 →
      ((num w ≤ num (decode t) ↔ (totalOrderKey w).toNat ≤ t.toNat)
        ∧ (t.toNat = (totalOrderKey w).toNat → num (decode t) = num w)) := by
  have hfin := mod_lt_of_finite hb ht
  have hwlt := w.isLt
  have hk := toNat_key w
  have hkr : 8388608 ≤ (totalOrderKey w).toNat ∧ (totalOrderKey w).toNat ≤ 4286578687 := by
    rw [hk]; split_ifs <;> omega
  refine ⟨hkr.2, fun t hle => ?_⟩
  have hd := toNat_decode t
  have hkd := toNat_key_decode t
  constructor
  · by_cases hnan : IsNaN 8 23 (decode t)
    · rw [num_of_isNaN hnan, le_bot_iff]
      rw [isNaN_iff, hd] at hnan
      refine iff_of_false hb ?_
      split_ifs at hnan <;> omega
    · have hw : ¬IsNaN 8 23 w := by rw [isNaN_iff]; omega
      by_cases hz : OppositeZeros 8 23 (decode t) w
      · rcases (oppositeZeros_f32_iff _ _).mp hz with ⟨-, h⟩ | ⟨h1, h2⟩
        · exact absurd h h0
        · rw [h1, h2, num_zero, num_negZero]
          refine iff_of_true le_rfl ?_
          rw [← hkd, h1]; decide
      · have hlt := lt_iff (e := 8) (m := 23) hnan hw hz
        rw [← not_lt, ← not_lt]
        refine not_congr ?_
        rw [← hkd]
        exact hlt.symm
  · intro hK
    have he : totalOrderKey (decode t) = totalOrderKey w := BitVec.eq_of_toNat_eq (by rw [hkd, hK])
    rw [(totalOrderKey_eq_iff (e := 8) (m := 23) (decode t) w).mp he]

/-- For the word of a number below infinity there is a key that stands for the number, and among the keys up to
    `0xFF800000` exactly those from that key on stand for a number at least as large. For minus infinity, which a word
    that is not a number denotes too, the key is zero. -/
theorem exists_key {w : BitVec 32} (ht : num w ≠ ⊤) :
    ∃ K : ℕ, K ≤ 4286578687 ∧ ∀ t : BitVec 32, t.toNat ≤ 4286578688 →
      ((num w ≤ num (decode t) ↔ K ≤ t.toNat) ∧ (t.toNat = K → num (decode t) = num w)) := by
  by_cases hb : num w = ⊥
  · refine ⟨0, by norm_num, fun t _ => ⟨by simp [hb], fun h0 => ?_⟩⟩
    rw [hb, show t = 0#32 from BitVec.eq_of_toNat_eq h0]
    exact num_of_isNaN ((isNaN_iff _).mpr (by decide))
  by_cases h0 : w = 0#32
  · subst h0
    rw [num_zero, ← num_negZero] at *
    exact ⟨_, key_spec hb ht (by decide)⟩
  · exact ⟨_, key_spec hb ht h0⟩

/-- Flipping the top bit of a word that is a number negates the number. -/
theorem num_flip {w : BitVec 32} (h : ¬IsNaN 8 23 w) : num (w ^^^ 2147483648#32) = -num w := by
  have hf := toNat_flip w
  have hlt := w.isLt
  have h' : ¬IsNaN 8 23 (w ^^^ 2147483648#32) := by
    rw [isNaN_iff] at h ⊢
    split_ifs at hf <;> omega
  have hs : (w ^^^ 2147483648#32).msb = !w.msb := by
    rw [Bool.eq_not, Ne, Bool.eq_iff_iff, msb_iff', msb_iff']
    split_ifs at hf <;> omega
  have hm : mag 8 23 (w ^^^ 2147483648#32) = mag 8 23 w := by
    have e1 := toNat_eq_sign_add_mag (e := 8) (m := 23) (w ^^^ 2147483648#32)
    have e2 := toNat_eq_sign_add_mag (e := 8) (m := 23) w
    have i := msb_iff' w
    change (w ^^^ 2147483648#32).toNat = _ at e1
    change w.toNat = (if w.msb = true then _ else _) + _ at e2
    rw [hs] at e1
    generalize (w ^^^ 2147483648#32).toNat = a at e1 hf
    cases hc : w.msb <;> rw [hc] at e1 e2 i <;> norm_num at e1 e2 i <;> split_ifs at hf <;> omega
  have ha := (absVal_eq_absVal_iff (e := 8) (m := 23) h' h).mpr hm
  unfold num
  rw [ieee_eq_signed_absVal h, ieee_eq_signed_absVal h', ha,
    show sign 8 23 w = w.msb from sign_eq_msb (e := 8) (m := 23) w,
    show sign 8 23 (w ^^^ 2147483648#32) = (w ^^^ 2147483648#32).msb from sign_eq_msb (e := 8) (m := 23) _, hs]
  cases w.msb <;> simp

/-- If some word denotes the magnitude of an extended real other than plus infinity, then some word denotes the extended
    real itself. -/
theorem exists_word {x : EReal} {w : BitVec 32} (hw : num w = max x (-x)) (hxt : x ≠ ⊤) : ∃ w', num w' = x := by
  rcases le_total x (-x) with h | h
  · rw [max_eq_right h] at hw
    have hnan : ¬IsNaN 8 23 w := by
      intro hn
      rw [num_of_isNaN hn, eq_comm, EReal.neg_eq_bot_iff] at hw
      exact hxt hw
    exact ⟨w ^^^ 2147483648#32, by rw [num_flip hnan, hw, neg_neg]⟩
  · rw [max_eq_left h] at hw
    exact ⟨w, hw⟩

end Cert.Proof.Words

end
-- ==== Proof.Sorted.lean ====
/-
  The entry at a given place of a sorted list, told by counting.

  A family of numbers is put in ascending order. The entry at place `r`, counted from zero, is at most `y` exactly if
  at least `r + 1` numbers of the family are at most `y`. This is all that the kernel and the reference share about
  the order statistic: the reference reads the entry, the kernel counts.
-/
module

public import Idealize.ShloMosaic.Lib.SortFacts
public import Idealize.ShloMosaic.PureOps.Ideal
public import Mathlib.Data.Finset.Card
public import Mathlib.Order.Interval.Finset.Fin
public import Idealize.ShloMosaic.Lib.Pointwise

@[expose] public section

noncomputable section

namespace Cert.Proof.Sorted

open Idealize.ShloMosaic

/-- The stable sort of a family of extended reals leaves it in ascending order. -/
theorem sorted_le {n : ℕ} (f : Fin n → EReal) (before : Fin n → Fin n → Bool)
    (hb : ∀ k k', before k k' = true ↔ f k < f k') (i j : Fin n) (hij : i ≤ j) :
    f (sortedFrom before i) ≤ f (sortedFrom before j) := by
  have hf : ∀ k k', before k k' = false ↔ f k' ≤ f k := fun k k' => by
    rw [← not_lt, ← hb, Bool.not_eq_true]
  rcases hij.eq_or_lt with rfl | hlt
  · exact le_rfl
  · refine (hf _ _).mp (sortedFrom_noInversion before before ?_ (fun _ _ h => h) ?_ i j hlt)
    · exact fun a b h => (hf _ _).mpr ((hb _ _).mp h).le
    · exact fun a b c h h' => (hf _ _).mpr (((hf _ _).mp h').trans ((hf _ _).mp h))

/-- The entry at place `r` of the sorted family is at most `y` exactly if at least `r + 1` members are at most `y`. -/
theorem sorted_le_iff {n : ℕ} (f : Fin n → EReal) (before : Fin n → Fin n → Bool)
    (hb : ∀ k k', before k k' = true ↔ f k < f k') (r : Fin n) (y : EReal) :
    f (sortedFrom before r) ≤ y ↔ r.val + 1 ≤ (Finset.univ.filter fun k => f k ≤ y).card := by
  have hinj := sortedFrom_injective before
  constructor
  · intro h
    calc r.val + 1 = ((Finset.Iic r).image (sortedFrom before)).card := by
          rw [Finset.card_image_of_injective _ hinj, Fin.card_Iic]
      _ ≤ _ := Finset.card_le_card fun k hk => by
          obtain ⟨i, hi, rfl⟩ := Finset.mem_image.mp hk
          exact Finset.mem_filter.mpr
            ⟨Finset.mem_univ _, (sorted_le f before hb i r (Finset.mem_Iic.mp hi)).trans h⟩
  · intro h
    by_contra hy
    have hle : (Finset.univ.filter fun k => f k ≤ y).card ≤ ((Finset.Iio r).image (sortedFrom before)).card :=
      Finset.card_le_card fun k hk => by
        obtain ⟨i, rfl⟩ := sortedFrom_surjective before k
        refine Finset.mem_image_of_mem _ (Finset.mem_Iio.mpr (lt_of_not_ge fun hri => hy ?_))
        exact (sorted_le f before hb r i hri).trans (Finset.mem_filter.mp hk).2
    rw [Finset.card_image_of_injective _ hinj, Fin.card_Iio] at hle
    omega

end Cert.Proof.Sorted

end
-- ==== Proof.Rows.lean ====
/-
  Counting within one of the 32 rows of the input.

  A row is the set of positions whose first coordinate is fixed. The kernel counts over these positions by a sum over
  the last three axes. The reference flattens a row to a list of 147456 entries and sorts it. Both counts are `below`,
  the number of positions of the row whose value is at most a bound.
-/
module

public import proofs.«01_k».proof.Proof.Sorted
public import proofs.«01_k».proof.KernelIdeal
public import proofs.«01_k».proof.ReferenceIdeal
public import Idealize.ShloMosaic.Lib.WordSum

@[expose] public section

noncomputable section

namespace Cert.Proof.Rows

open Idealize.ShloMosaic

/-- The shape of the input. -/
abbrev Img : Shape := ⟨4, ![32, 1, 384, 384]⟩

/-- The shape of the input with each row flattened. -/
abbrev Flat : Shape := ⟨3, ![32, 1, 147456]⟩

/-- How many positions of row `r` hold a value of at most `y`. -/
def below (x : Img.Idx → EReal) (r : Fin 32) (y : EReal) : ℕ :=
  (Finset.univ.filter fun i : Img.Idx => (i 0).val = r.val ∧ x i ≤ y).card

/-- Flattening keeps the row: the position behind a flattened one has the same first coordinate. -/
theorem row_flat (h : Img.ShapeCasts Flat) (j : Flat.Idx) :
    (Shape.reshapeEquiv h j 0).val = (j 0).val := by
  have e := Shape.rowMajor_reshapeEquiv h j
  rw [rowMajor_val4 _ 147456 147456 384 rfl rfl rfl, rowMajor_val3 _ 147456 147456 rfl rfl] at e
  generalize Shape.reshapeEquiv h j = i at e ⊢
  have hi1 : (i 1).val < 1 := (i 1).isLt
  have hi2 : (i 2).val < 384 := (i 2).isLt
  have hi3 : (i 3).val < 384 := (i 3).isLt
  have hj1 : (j 1).val < 1 := (j 1).isLt
  have hj2 : (j 2).val < 147456 := (j 2).isLt
  omega

/-- Counting over a flattened row is counting over the row. -/
theorem card_flat (h : Img.ShapeCasts Flat) (x : Img.Idx → EReal) (j : Flat.Idx) (y : EReal) :
    (Finset.univ.filter fun k : Fin 147456 => x (Shape.reshapeEquiv h (j.along 2 k)) ≤ y).card = below x (j 0) y := by
  refine Finset.card_bij (fun k _ => Shape.reshapeEquiv h (j.along 2 k)) ?_ ?_ ?_
  · intro k hk
    refine Finset.mem_filter.mpr ⟨Finset.mem_univ _, ?_, (Finset.mem_filter.mp hk).2⟩
    exact row_flat h _
  · intro k _ k' _ e
    have e2 : j.along 2 k 2 = j.along 2 k' 2 := congrFun ((Shape.reshapeEquiv h).injective e) 2
    have hk : ∀ k : Fin 147456, j.along 2 k 2 = k := fun _ => rfl
    exact (hk k).symm.trans (e2.trans (hk k'))
  · intro i hi
    obtain ⟨_, hr, hy⟩ := Finset.mem_filter.mp hi
    obtain ⟨l, rfl⟩ := (Shape.reshapeEquiv h).surjective i
    have hl : j.along 2 (l 2) = l := by
      funext a
      fin_cases a
      · exact Fin.ext (hr.symm.trans (row_flat h l))
      · exact Subsingleton.elim (α := Fin 1) _ _
      · simp [Shape.Idx.along]
    exact ⟨l 2, Finset.mem_filter.mpr ⟨Finset.mem_univ _, by rw [hl]; exact hy⟩, by rw [hl]⟩

/-- No row has more than 147456 positions. -/
theorem below_le (h : Img.ShapeCasts Flat) (x : Img.Idx → EReal) (r : Fin 32) (y : EReal) : below x r y ≤ 147456 := by
  have := card_flat h x (ix3 r 0 0 : Flat.Idx) y
  rw [show below x r y = _ from this.symm]
  exact (Finset.card_le_univ _).trans (by rw [Fintype.card_fin])

end Cert.Proof.Rows

end
-- ==== Proof.Reference.lean ====
/-
  What the reference computes, element by element, over the extended reals.

  The reference flattens each row, sorts it in ascending order, takes the entry at place 103219 as the row's
  threshold and returns the sigmoid of ten times the distance to the threshold.
-/
module

public import proofs.«01_k».proof.Proof.Rows
public import proofs.«01_k».proof.Proof.Gen.ReferenceIdeal.Run

@[expose] public section

noncomputable section

namespace Cert.Proof.Reference

open Idealize.ShloMosaic Cert.ReferenceIdeal Cert.ReferenceIdeal.Gen Cert.Proof.Rows

/-- The sigmoid of ten times the distance of `a` to `thr`, as both programs spell it. -/
def squash (a thr : EReal) : EReal :=
  Ideal.div (Ideal.ofBits .f32 0x3F800000#32)
    (Ideal.ofBits .f32 0x3F800000#32 + Ideal.exp (-(Ideal.ofBits .f32 0x41200000#32 * (a - thr))))

/-- What the comparator does to a number before comparing: nothing, over the extended reals. -/
theorem comparand_eq (a : EReal) :
    Scalar.select (Ideal.cmp .une a a) (Ideal.ofBits .f32 0x7FC00000#32)
      (Scalar.select (Ideal.cmp .oeq a (Ideal.ofBits .f32 0x00000000#32)) (Ideal.ofBits .f32 0x00000000#32) a) = a := by
  by_cases ha : a = 0 <;> simp [Scalar.select, Ideal.cmp, ha, Ideal.ofBits_zero_f32]

/-- The sort's comparator orders two numbers by the order of the extended reals. -/
theorem comparator_iff (l r : EReal) : comparator_f32_d2 (F := Ideal) l r = 1#1 ↔ l < r := by
  have e : comparator_f32_d2 (F := Ideal) l r = Ideal.cmp .olt l r :=
    congrArg₂ (Ideal.cmp .olt) (comparand_eq l) (comparand_eq r)
  rw [e]
  by_cases h : l < r <;> simp [Ideal.cmp, h]

/-- The input sorted within each row. -/
def sorted (x : Img.Idx → EReal) : Flat.Idx → EReal :=
  Host.sort S32x1x147456 2 (comparator_f32_d2 (F := Ideal))
    (shapeCast S32x1x147456 x shapeCasts_S32x1x384x384_S32x1x147456)

/-- The threshold of row `r`: the entry at place 103219 of the sorted row. -/
def thr (x : Img.Idx → EReal) (r : Fin 32) : EReal := sorted x (ix3 r 0 ⟨103219, by norm_num⟩)

/-- The entry at place `k` of the flattened row `r`, before the sort. -/
def entry (x : Img.Idx → EReal) (r : Fin 32) (k : Fin 147456) : EReal :=
  x (Shape.reshapeEquiv shapeCasts_S32x1x384x384_S32x1x147456
    ((ix3 r 0 ⟨103219, by norm_num⟩ : Flat.Idx).along 2 k))

/-- The threshold is the flattened row read through the sort's rearrangement at place 103219. -/
theorem thr_eq (x : Img.Idx → EReal) (r : Fin 32) :
    thr x r = entry x r (sortedFrom
      (fun k k' => comparator_f32_d2 (F := Ideal) (entry x r k) (entry x r k') == 1#1) ⟨103219, by norm_num⟩) := by
  unfold thr sorted Host.sort
  rw [dif_pos (by decide)]
  rfl

/-- The threshold of row `r` is at most `y` exactly if at least 103220 positions of the row are at most `y`. -/
theorem thr_le_iff (x : Img.Idx → EReal) (r : Fin 32) (y : EReal) : thr x r ≤ y ↔ 103220 ≤ below x r y := by
  rw [thr_eq, Sorted.sorted_le_iff (entry x r) _ (fun k k' => beq_iff_eq.trans (comparator_iff _ _)) _ y]
  exact (congrArg (103220 ≤ ·) (card_flat shapeCasts_S32x1x384x384_S32x1x147456 x
    (ix3 r 0 ⟨103219, by norm_num⟩) y)).to_iff

/-- The reference's result as its operations compose it. -/
def out (x : Img.Idx → EReal) : Img.Idx → EReal :=
  Host.divf (F := Ideal) (φ := .f32) (broadcastInDim S32x1x384x384 ![] bcast_S_S32x1x384x384 (constant S_ .f32 0x3F800000#32))
    (addf (broadcastInDim S32x1x384x384 ![] bcast_S_S32x1x384x384 (constant S_ .f32 0x3F800000#32))
      (Host.exp (Host.negf (mulf (broadcastInDim S32x1x384x384 ![] bcast_S_S32x1x384x384 (constant S_ .f32 0x41200000#32))
        (subf x (broadcastInDim S32x1x384x384 ![0, 1, 2, 3] bcast_S32x1x1x1_S32x1x384x384_0_1_2_3
          (shapeCast _ (shapeCast _ (extractStridedSlice S32x1x1 ![0, 0, 103219] (sorted x)
            slices_S32x1x147456_S32x1x1_0_0_103219) shapeCasts_S32x1x1_S32x1) shapeCasts_S32x1_S32x1x1x1)))))))

/-- An element of the reference's result is the sigmoid of its distance to the threshold of its row. -/
theorem out_apply (x : Img.Idx → EReal) (i : Img.Idx) : out x i = squash (x i) (thr x (i 0)) := by
  unfold out squash thr
  pointwise

end Cert.Proof.Reference

end
-- ==== Proof.Body.lean ====
/-
  One trip of the kernel's loop and its last expression, element by element, over the extended reals.

  The loop carries one 32-bit prefix per row. A trip counts the positions of the row that hold at most the number
  behind the tested word and keeps or extends the prefix: one step of the search in `Search`, with the test «at least
  103220 positions of the row are at most the decoded word». The last expression is the sigmoid around the number
  behind the final prefix.
-/
module

public import proofs.«01_k».proof.Proof.Search
public import proofs.«01_k».proof.Proof.Words
public import proofs.«01_k».proof.Proof.Reference
public import proofs.«01_k».proof.Proof.Gen.KernelIdeal.Value

@[expose] public section

noncomputable section

namespace Cert.Proof.Body

open Idealize.ShloMosaic Cert.KernelIdeal Cert.KernelIdeal.Gen Cert.Proof.Rows Cert.Proof.Words

/-- The kernel's test of a word for row `r`: at least 103220 positions of the row hold at most the decoded word. -/
def passes (x : Img.Idx → EReal) (r : Fin 32) (t : BitVec 32) : Prop := 103220 ≤ below x r (num (decode t))

instance decPasses (x : Img.Idx → EReal) (r : Fin 32) : DecidablePred (passes x r) := fun _ => Nat.decLe _ _

/-- The bound behind a vector of words, as the kernel computes it. -/
def bounds (q : IVec S32x1x1x1 32) : FVec Ideal S32x1x1x1 .f32 :=
  bitcastToFloat .f32 (select (cmpi .uge q (broadcast S32x1x1x1 2147483648#32))
    (xori q (broadcast S32x1x1x1 2147483648#32)) (xori q (constantI S32x1x1x1 32 4294967295#32)))

/-- The kernel's bound is the number behind the decoded word. -/
theorem bounds_apply (q : IVec S32x1x1x1 32) (j : S32x1x1x1.Idx) : bounds q j = num (decode (q j)) := by
  have h : Scalar.select (IntOp.cmpi .uge (q j) 2147483648#32) (q j ^^^ 2147483648#32) (q j ^^^ 4294967295#32)
      = decode (q j) := by
    unfold decode
    by_cases hq : 2147483648 ≤ (q j).toNat <;>
      simp [Scalar.select, IntOp.cmpi, BitVec.ule, hq]
  exact congrArg num h

/-- The kernel's 0/1 mask: whether an element is at most the bound of its row. -/
def mask (x : Img.Idx → EReal) (b : FVec Ideal S32x1x1x1 .f32) : IVec S32x1x384x384 32 :=
  extui 32 (cmpf (F := Ideal) (φ := .f32) .ole x
    (broadcastTo S32x1x384x384 b broadcasts_S32x1x1x1_S32x1x384x384)) natLt_1_32

/-- The mask's word at a position is one if the element is at most the bound of its row and zero if not. -/
theorem mask_apply (x : Img.Idx → EReal) (b : FVec Ideal S32x1x1x1 .f32) (i : Img.Idx) :
    (mask x b i).toNat = if x i ≤ b (ix4 (i 0) 0 0 0) then 1 else 0 := by
  unfold mask
  pointwise
  by_cases h : x i ≤ b (ix4 (i 0) 0 0 0) <;> simp [h]

/-- The positions that the sum over the last three axes adds up for row `r` are the positions of the row. -/
theorem drop_eq_iff (i : Img.Idx) (r : S32.Idx) :
    reduces_S32x1x384x384_S32.drop i = r ↔ (i 0).val = (r 0).val := by
  have h0 : (reduces_S32x1x384x384_S32.drop i 0 : ℕ) = i 0 :=
    reduces_S32x1x384x384_S32.drop_apply_val_of_eq i 0 0
  constructor
  · rintro rfl
    exact h0.symm
  · intro h
    funext a
    fin_cases a
    exact Fin.ext (h0.trans h)

/-- The kernel's count for a row, as a number: how many positions of the row are at most the row's bound. -/
theorem count_eq (x : Img.Idx → EReal) (b : FVec Ideal S32x1x1x1 .f32) (r : S32.Idx) :
    (multiReductionI .add [1, 2, 3] S32 (mask x b) 0#32 reduces_S32x1x384x384_S32 rfl r).toNat
      = below x (r 0) (b (ix4 (r 0) 0 0 0)) := by
  have hsum : ∑ i ∈ Finset.univ.filter (fun i => reduces_S32x1x384x384_S32.drop i = r), (mask x b i).toNat
      = below x (r 0) (b (ix4 (r 0) 0 0 0)) := by
    unfold below
    rw [← Finset.filter_filter, Finset.card_filter]
    refine Finset.sum_congr (Finset.filter_congr fun i _ => drop_eq_iff i r) fun i hi => ?_
    have hr : i 0 = r 0 := Fin.ext (Finset.mem_filter.mp hi).2
    rw [mask_apply, hr]
  refine (WordSum.toNat_multiReductionI_add (mask x b) reduces_S32x1x384x384_S32 rfl r ?_).trans hsum
  rw [hsum]
  exact (below_le Cert.ReferenceIdeal.Facts₀.shapeCasts_S32x1x384x384_S32x1x147456 _ _ _).trans_lt (by norm_num)

/-- Choosing by a signed comparison with 103220 is choosing by the number, for words of at most 147456. -/
theorem select_sge (c : BitVec 32) (hc : c.toNat ≤ 147456) (a b : BitVec 32) :
    Scalar.select (IntOp.cmpi .sge c 103220#32) a b = if 103220 ≤ c.toNat then a else b := by
  have hi : c.toInt = c.toNat := BitVec.toInt_eq_toNat_of_lt (by omega)
  by_cases h : 103220 ≤ c.toNat <;> simp [Scalar.select, IntOp.cmpi, BitVec.sle, hi, h]

/-- A trip's words by the bit it decides: the weight of the bit, and the ones below it. -/
theorem trip_words : ∀ k : Fin 32,
    Scalar.shli 1#32 (Scalar.subi 31#32 (Scf.iv 0#32 1#32 k.val)) = BitVec.ofNat 32 (2 ^ (31 - k.val))
    ∧ Scalar.subi (Scalar.shli 1#32 (Scalar.subi 31#32 (Scf.iv 0#32 1#32 k.val))) 1#32
      = BitVec.ofNat 32 (2 ^ (31 - k.val) - 1) := by
  decide

/-- One trip of the loop is one step of the search, in each row. -/
theorem trip_apply (k : Fin k0_t1_loop.trips) (p : IVec S32x1x1x1 32) (x : Img.Idx → EReal) (r : Fin 32) :
    k0_pay2 (F := Ideal) k p x (ix4 r 0 0 0) = Search.step (passes x r) (p (ix4 r 0 0 0)) (31 - k.val) := by
  obtain ⟨h1, h2⟩ := trip_words ⟨k.val, Nat.lt_of_lt_of_le k.isLt k0_t1_abs.2.1⟩
  dsimp only at h1 h2
  unfold k0_pay2
  rw [h2, h1]
  show Scalar.select (IntOp.cmpi .sge (multiReductionI .add [1, 2, 3] S32
      (mask x (bounds (ori p (broadcast S32x1x1x1 (BitVec.ofNat 32 (2 ^ (31 - k.val) - 1))))))
      0#32 reduces_S32x1x384x384_S32 rfl
      (Shape.reshapeEquiv shapeCasts_S32_S32x1x1x1 (ix4 r 0 0 0))) 103220#32) (p (ix4 r 0 0 0))
    (p (ix4 r 0 0 0) ||| BitVec.ofNat 32 (2 ^ (31 - k.val))) = _
  have hr : Shape.reshapeEquiv shapeCasts_S32_S32x1x1x1 (ix4 r 0 0 0) = ix1 r := by pointwise
  rw [hr, select_sge, count_eq, bounds_apply]
  · rfl
  · rw [count_eq]
    exact below_le Cert.ReferenceIdeal.Facts₀.shapeCasts_S32x1x384x384_S32x1x147456 _ _ _

/-- The kernel's last expression at a position is the sigmoid around the number behind the row's prefix. -/
theorem last_apply (p : IVec S32x1x1x1 32) (x : Img.Idx → EReal) (i : Img.Idx) :
    k0_pay3 (F := Ideal) p x i = Reference.squash (x i) (num (decode (p (ix4 (i 0) 0 0 0)))) := by
  rw [← bounds_apply]
  unfold k0_pay3 Reference.squash
  pointwise
  rw [zero_sub]
  rfl

end Cert.Proof.Body

end
-- ==== Proof.Kernel.lean ====
/-
  What the kernel's output array holds after the run, element by element, over the extended reals.

  The kernel has one grid point and its blocks are the whole arrays. So the output array is the last expression of the
  kernel at the prefix the loop ends with, and that prefix is, in each row, the result of the search in `Search`.
-/
module

public import proofs.«01_k».proof.Proof.Body
public import Idealize.ShloMosaic.Lib.Pipeline.ValueKit

@[expose] public section

noncomputable section

namespace Cert.Proof.Kernel

open Idealize.ShloMosaic Idealize.ShloMosaic.TcCoe Cert.KernelIdeal Cert.KernelIdeal.Gen
open Cert.Proof.Rows Cert.Proof.Words Cert.Proof.Body

/-- The loop runs 32 times. -/
theorem trips_eq : k0_t1_loop.trips = 32 := by decide

/-- The offset of the kernel's loads and of its store is zero. -/
theorem offset_zero : (![0, 0, 0, 0] : Fin 4 → ℕ) = fun _ => 0 := funext fun a => by fin_cases a <;> rfl

/-- Before trip `n` the loop carries, in each row, the prefix of the search after `n` steps. -/
theorem carried (c : Dev nD) (i : grid0.Coords)
    (a1 : Memref sig .tc .vmem S32x1x384x384 .f32) (h1 : a1.IsWhole)
    (a2 : Memref sig .tc .vmem S32x1x384x384 .f32) (h2 : a2.IsWhole) (x : Vec Ideal S32x1x384x384 .f32) (r : Fin 32) :
    ∀ n ≤ k0_t1_loop.trips, st_k0_t1 (F := Ideal) Variants.none c none i a1 h1 a2 h2 (h1.unread x) k0_pay1 n (ix4 r 0 0 0)
      = Search.prefixAt (passes x r) n
  | 0, _ => rfl
  | n + 1, h => by
    refine (congrFun (st_k0_t1_succ (F := Ideal) Variants.none c none i a1 h1 a2 h2 (h1.unread x) k0_pay1 ⟨n, h⟩) _).trans ?_
    unfold tripR_k0_t1 trip_k0_t1
    dsimp only
    rw [View.readAt_eq_ld, h1.read_unread, View.ld_unit_zero (S := S32x1x384x384) offset_zero]
    rw [trip_apply, carried c i a1 h1 a2 h2 x r n (Nat.le_of_succ_le h)]
    rfl

/-- The prefix the search ends with in row `r`. -/
def key (x : Img.Idx → EReal) (r : Fin 32) : BitVec 32 := Search.prefixAt (passes x r) 32

/-- The kernel's result, element by element. -/
def result (x : Img.Idx → EReal) (i : Img.Idx) : EReal := Reference.squash (x i) (num (decode (key x (i 0))))

/-- What the body leaves in the output's staging buffer is the result on what it finds in the input's. -/
theorem staged (c : Dev nD) (i : grid0.Coords)
    (a1 : Memref sig .tc .vmem S32x1x384x384 .f32) (h1 : a1.IsWhole)
    (a2 : Memref sig .tc .vmem S32x1x384x384 .f32) (h2 : a2.IsWhole) (x : Vec Ideal S32x1x384x384 .f32) :
    out0_A_1 (F := Ideal) c i a1 h1 a2 h2 x = result x := by
  unfold out0_A_1
  rw [View.read_writes_eq_canon _ _ _ (cover0_A_1 (F := Ideal) c i a1 h1 a2 h2 x)]
  unfold kernelRun0_A
  dsimp only
  rw [View.canon_unit_zero offset_zero]
  simp only [View.readAt_eq_ld, h1.read_unread, View.ld_unit_zero (S := S32x1x384x384) offset_zero]
  funext j
  rw [last_apply]
  have e := carried c i a1 h1 a2 h2 x (j 0) k0_t1_loop.trips le_rfl
  rw [trips_eq] at e
  unfold result key
  rw [← e]
  rfl

variable (m : (ℓ : Loc nD τ sig) → Buf (Elt Ideal) ℓ)

/-- Both windows stand at block zero at the one grid point. -/
theorem index_zero : ∀ t : Fin cfg0.N, win0_0.index t = ![0, 0, 0, 0] ∧ win0_1.index t = ![0, 0, 0, 0] :=
  (by decide +kernel : ∀ t : Fin grid0.N, win0_0.index t = ![0, 0, 0, 0] ∧ win0_1.index t = ![0, 0, 0, 0])

/-- The input's block is the whole argument. -/
theorem block_eq (c : Dev nD) (t : Fin cfg0.N) :
    iblk m c 0 t = (m ((c : Thread nD τ).loc main_arg0) : Img.Idx → EReal) := by
  funext y
  blk_ext [iblk, V_main_arg0, index_zero t]

/-- A position of the output's block is the same position of the output array. -/
theorem place_eq (t : Fin cfg0.N) (y : Img.Idx) : ((win0_1.blk t).view.emb y : Img.Idx) = y := by
  blk_ext [index_zero t]

/-- After the run the output array holds the result on the argument's launch contents. -/
theorem array (c : Dev nD) :
    (dats m 0 c).arrAt 1 cfg0.N = (result (m ((c : Thread nD τ).loc main_arg0)) : Img.Idx → EReal) := by
  refine (dats m 0 c).arrAt_eq_of_covers 1 _ (by decide +kernel) fun t hf y => ?_
  blk_simp
  rw [after0_1]
  unfold outsAt0
  rw [staged]
  rw [block_eq]
  exact congrArg _ (place_eq t y).symm

end Cert.Proof.Kernel

end
-- ==== Proof.Equation.lean ====
/-
  The kernel's result equals the reference's if the threshold of every row is a 32-bit floating-point number below
  infinity.

  The threshold of a row is the number of some word. The kernel's search ends at the key of
  that word: a tested word passes exactly if the threshold is at most its value. So both programs subtract the same
  threshold, and the rest of the two expressions is the same.
-/
module

public import proofs.«01_k».proof.Proof.Kernel

@[expose] public section

noncomputable section

namespace Cert.Proof.Equation

open Idealize.ShloMosaic Cert.Proof.Rows Cert.Proof.Words Cert.Proof.Body

/-- The threshold of every row is the number of a 32-bit word and is not plus infinity. -/
def Numbers (x : Img.Idx → EReal) : Prop := ∀ r, (∃ w, num w = Reference.thr x r) ∧ Reference.thr x r ≠ ⊤

/-- The number behind the prefix that the search ends with is the row's threshold. -/
theorem key_eq {x : Img.Idx → EReal} (hx : Numbers x) (r : Fin 32) :
    num (decode (Kernel.key x r)) = Reference.thr x r := by
  obtain ⟨⟨w, hw⟩, ht⟩ := hx r
  obtain ⟨K, hK, h⟩ := exists_key (hw ▸ ht)
  have hend : (Kernel.key x r).toNat = K := by
    refine Search.prefixAt_end (passes x r) K hK fun t htop => ?_
    unfold passes
    rw [← Reference.thr_le_iff, ← hw]
    exact (h t htop).1
  rw [(h _ (by omega)).2 hend, hw]

/-- On such inputs the two results are the same array. -/
theorem result_eq {x : Img.Idx → EReal} (hx : Numbers x) : Kernel.result x = Reference.out x := by
  funext i
  exact (congrArg (Reference.squash (x i)) (key_eq hx (i 0))).trans (Reference.out_apply x i).symm

end Cert.Proof.Equation

end
-- ==== Proof.Pre.lean ====
/-
  What the precondition of the value claim says.

  The precondition computes each row's threshold as the reference does, searches bit by bit for a word and compares the
  number of the word with the threshold's magnitude. Nothing has to be known about the search: if the comparison
  succeeds, the word found denotes the magnitude, so some word denotes the threshold.
-/
module

public import proofs.«01_k».proof.Proof.Equation
public import proofs.«01_k».proof.Pre_float32_threshold

@[expose] public section

noncomputable section

namespace Cert.Proof.Pre

open Idealize.ShloMosaic Cert.Pre_float32_threshold Cert.Proof.Rows Cert.Proof.Words

/-- The shape facts that the precondition states. -/
theorem facts : Cert.Pre_float32_threshold.Facts where
  shapeCasts_S32x1x384x384_S32x1x147456 := Cert.ReferenceIdeal.Facts₀.shapeCasts_S32x1x384x384_S32x1x147456
  slices_S32x1x147456_S32x1x1_0_0_103219 := Cert.ReferenceIdeal.Facts₀.slices_S32x1x147456_S32x1x1_0_0_103219
  shapeCasts_S32x1x1_S32x1 := Cert.ReferenceIdeal.Facts₀.shapeCasts_S32x1x1_S32x1
  bcast_S_S32x1 := by decide

variable [Cert.Pre_float32_threshold.Facts]

/-- Where the bits `f` are set, the number `a` is minus infinity or it is below infinity and some word denotes the
    number `s`. -/
def Sound (a s : FVec Ideal S32x1 .f32) (f : IVec S32x1 1) : Prop :=
  ∀ j, f j = 1#1 → a j = ⊥ ∨ ((∃ w, num w = s j) ∧ a j ≠ ⊤)

/-- The last part of the precondition is sound, whatever word it is given. -/
theorem sound8 (a s : FVec Ideal S32x1 .f32) (p q : IVec S32x1 32) (c : IVec S32x1 1) :
    Sound a s (fn_part8 a s p q c) := by
  intro j h
  unfold fn_part8 at h
  pointwise at h
  have hbits : a j = Ideal.ofBits .f32 4286578688#32
      ∨ Ideal.ofBits .f32 (fn_where (F := Ideal) c q p j) = s j ∧ a j < Ideal.ofBits .f32 2139095040#32 := by
    by_contra hn
    push Not at hn
    by_cases h1 : Ideal.ofBits .f32 (fn_where (F := Ideal) c q p j) = s j
    · simp [IntOp.ori, IntOp.andi, hn.1, h1, not_lt_of_ge (hn.2 h1)] at h
    · simp [IntOp.ori, IntOp.andi, hn.1, h1] at h
  rcases hbits with h1 | ⟨h1, h2⟩
  · exact .inl (h1.trans num_negInf)
  · exact .inr ⟨⟨_, h1⟩, (h2.trans_le le_top).ne⟩

/-- The seventh part is sound. -/
theorem sound7 (a s : FVec Ideal S32x1 .f32) (p q : IVec S32x1 32) (c : IVec S32x1 1) :
    Sound a s (fn_part7 a s p q c) := sound8 a s _ _ _

/-- The sixth part is sound. -/
theorem sound6 (a s : FVec Ideal S32x1 .f32) (p q : IVec S32x1 32) (c : IVec S32x1 1) :
    Sound a s (fn_part6 a s p q c) := sound7 a s _ _ _

/-- The fifth part is sound. -/
theorem sound5 (a s : FVec Ideal S32x1 .f32) (p q : IVec S32x1 32) (c : IVec S32x1 1) :
    Sound a s (fn_part5 a s p q c) := sound6 a s _ _ _

/-- The fourth part is sound. -/
theorem sound4 (a s : FVec Ideal S32x1 .f32) (p q : IVec S32x1 32) (c : IVec S32x1 1) :
    Sound a s (fn_part4 a s p q c) := sound5 a s _ _ _

/-- The third part is sound. -/
theorem sound3 (a s : FVec Ideal S32x1 .f32) (p q : IVec S32x1 32) (c : IVec S32x1 1) :
    Sound a s (fn_part3 a s p q c) := sound4 a s _ _ _

/-- The second part is sound. -/
theorem sound2 (a s : FVec Ideal S32x1 .f32) (p q : IVec S32x1 32) (c : IVec S32x1 1) :
    Sound a s (fn_part2 a s p q c) := sound3 a s _ _ _

/-- The first part is sound. -/
theorem sound1 (a s : FVec Ideal S32x1 .f32) (p q : IVec S32x1 32) (c : IVec S32x1 1) :
    Sound a s (fn_part1 a s p q c) := sound2 a s _ _ _

/-- The thresholds as the precondition computes them. -/
def thrs (x : FVec Ideal S32x1x384x384 .f32) : FVec Ideal S32x1 .f32 :=
  shapeCast S32x1 (extractStridedSlice S32x1x1 ![0, 0, 103219]
    (fn_sort (shapeCast S32x1x147456 x Facts.shapeCasts_S32x1x384x384_S32x1x147456))
    Facts.slices_S32x1x147456_S32x1x1_0_0_103219) Facts.shapeCasts_S32x1x1_S32x1

/-- They are the reference's thresholds. -/
theorem thrs_apply (x : FVec Ideal S32x1x384x384 .f32) (r : Fin 32) : thrs x (ix2 r 0) = Reference.thr x r := by
  unfold thrs
  pointwise
  rfl

/-- The precondition is sound for the thresholds and their magnitudes. -/
theorem sound (x : FVec Ideal S32x1x384x384 .f32) : Sound (thrs x) (Host.absf (thrs x)) (fn x) :=
  sound1 _ _ _ _ _

/-- Under the precondition the threshold of every row is the number of a word and is not plus infinity. -/
theorem numbers {x : FVec Ideal S32x1x384x384 .f32} (h : fn x = fun _ => 1#1) : Equation.Numbers x := by
  intro r
  have hs := sound x (ix2 r 0) (congrFun h _)
  rw [thrs_apply] at hs
  rcases hs with hb | ⟨⟨w, hw⟩, ht⟩
  · exact ⟨⟨4294967295#32, by rw [hb]; exact num_of_isNaN ((isNaN_iff _).mpr (by decide))⟩, by rw [hb]; decide⟩
  · refine ⟨exists_word (w := w) (hw.trans ?_) ht, ht⟩
    rw [← thrs_apply]
    rfl

end Cert.Proof.Pre

end
-- ==== Proof.lean ====
/-
  The claims about the soft top-k mask kernel, assembled.

  The three runs leave the argument as it was and every counter at zero. At the extended reals the kernel's array
  (`Kernel.array`) and the reference's composed term (`Reference.out`) are equal under the precondition
  (`Equation.result_eq`, `Pre.numbers`), so both runs end with one and the same array.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Pre
public import Idealize.ShloMosaic.Adequacy
public import Idealize.ShloMosaic.Init

@[expose] public section

noncomputable section

namespace Cert.Proof

open Idealize.ShloMosaic Idealize.SL.Sem

/-- The reference runs, leaves its argument as it was and every counter at zero, from any memory. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c).2, sem_eq_zero_of_no_sems (by decide) r.2⟩)
    (Cert.ReferenceIdeal.Value.run m g)

/-- The value claim: under the precondition the kernel and the reference end with the same array, at the extended
    reals. -/
theorem value [hPre : Cert.Pre_float32_threshold.Facts] :
    algebraic_KernelIdeal_ReferenceIdeal_pre_float32_threshold := by
  intro m g m' g' hpre harg
  refine ⟨fun c => Kernel.result (m ((c.tc : Thread Cert.KernelIdeal.nD Cert.KernelIdeal.τ).loc Cert.KernelIdeal.main_arg0)), ?_, ?_⟩
  · exact (θ_run _ _ _).mono (fun r h c => ⟨(h c).1.trans (Kernel.array m c), (h c).2⟩)
      (Cert.KernelIdeal.Value.run_blocks m g)
  · refine (θ_run _ _ _).mono (fun r h c => ⟨(h c).1.trans ?_, (h c).2⟩) (Cert.ReferenceIdeal.Value.run m' g')
    rw [harg c]
    exact (Equation.result_eq (Pre.numbers (hpre c))).symm

/-- Every claim of the certificate. -/
theorem claim : Cert.Claim :=
  ⟨Cert.Kernel.Gen.facts, Cert.KernelIdeal.Gen.facts, Cert.ReferenceIdeal.Gen.facts, Pre.facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    trivial,
    value (hPre := Pre.facts)⟩

end Cert.Proof

end
